-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x512x768 : Shape := ⟨3, ![256, 512, 768]⟩
abbrev S256x512 : Shape := ⟨2, ![256, 512]⟩
abbrev S13x4x768 : Shape := ⟨3, ![13, 4, 768]⟩
abbrev S13x4 : Shape := ⟨2, ![13, 4]⟩
abbrev S2x768 : Shape := ⟨2, ![2, 768]⟩
abbrev S2 : Shape := ⟨1, ![2]⟩
abbrev S52x768 : Shape := ⟨2, ![52, 768]⟩
abbrev S54x768 : Shape := ⟨2, ![54, 768]⟩
abbrev S768x54 : Shape := ⟨2, ![768, 54]⟩
abbrev S52 : Shape := ⟨1, ![52]⟩
abbrev S54 : Shape := ⟨1, ![54]⟩
abbrev S1x54 : Shape := ⟨2, ![1, 54]⟩
abbrev S256x54 : Shape := ⟨2, ![256, 54]⟩
abbrev S8x512x768 : Shape := ⟨3, ![8, 512, 768]⟩
abbrev S8x512 : Shape := ⟨2, ![8, 512]⟩
abbrev S8x54 : Shape := ⟨2, ![8, 54]⟩
abbrev S8x512x1 : Shape := ⟨3, ![8, 512, 1]⟩
abbrev S8x768 : Shape := ⟨2, ![8, 768]⟩
abbrev S8 : Shape := ⟨1, ![8]⟩
abbrev S8x1 : Shape := ⟨2, ![8, 1]⟩

abbrev nBuf : Space → Nat
  | .hbm => 14
  | .vmem => 8
  | .smem => 0
  | _ => 0

abbrev bufTy : (tb : Table) → Fin (tcTables nBuf tb) → BufTy
  | .hbm, ⟨0, _⟩ => ⟨S256x512x768, .f32⟩
  | .hbm, ⟨1, _⟩ => ⟨S256x512, .i32⟩
  | .hbm, ⟨2, _⟩ => ⟨S13x4x768, .f32⟩
  | .hbm, ⟨3, _⟩ => ⟨S13x4, .f32⟩
  | .hbm, ⟨4, _⟩ => ⟨S2x768, .f32⟩
  | .hbm, ⟨5, _⟩ => ⟨S2, .f32⟩
  | .hbm, ⟨6, _⟩ => ⟨S52x768, .f32⟩
  | .hbm, ⟨7, _⟩ => ⟨S54x768, .f32⟩
  | .hbm, ⟨8, _⟩ => ⟨S768x54, .f32⟩
  | .hbm, ⟨9, _⟩ => ⟨S52, .f32⟩
  | .hbm, ⟨10, _⟩ => ⟨S54, .f32⟩
  | .hbm, ⟨11, _⟩ => ⟨S1x54, .f32⟩
  | .hbm, ⟨12, _⟩ => ⟨S256x512, .f32⟩
  | .hbm, ⟨13, _⟩ => ⟨S256x54, .f32⟩
  | .local _ .vmem, ⟨0, _⟩ => ⟨S8x512x768, .f32⟩
  | .local _ .vmem, ⟨1, _⟩ => ⟨S8x512x768, .f32⟩
  | .local _ .vmem, ⟨2, _⟩ => ⟨S8x512, .f32⟩
  | .local _ .vmem, ⟨3, _⟩ => ⟨S8x512, .f32⟩
  | .local _ .vmem, ⟨4, _⟩ => ⟨S768x54, .f32⟩
  | .local _ .vmem, ⟨5, _⟩ => ⟨S1x54, .f32⟩
  | .local _ .vmem, ⟨6, _⟩ => ⟨S8x54, .f32⟩
  | .local _ .vmem, ⟨7, _⟩ => ⟨S8x54, .f32⟩
  | _, _ => ⟨S256x512x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S768x54 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x54 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8x54 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S256x512x768 : Shape := ⟨3, ![256, 512, 768]⟩
abbrev S256x512 : Shape := ⟨2, ![256, 512]⟩
abbrev S13x4x768 : Shape := ⟨3, ![13, 4, 768]⟩
abbrev S13x4 : Shape := ⟨2, ![13, 4]⟩
abbrev S2x768 : Shape := ⟨2, ![2, 768]⟩
abbrev S2 : Shape := ⟨1, ![2]⟩
abbrev S256x768 : Shape := ⟨2, ![256, 768]⟩
abbrev S_ : Shape := ⟨0, ![]⟩
abbrev S256 : Shape := ⟨1, ![256]⟩
abbrev S256x1 : Shape := ⟨2, ![256, 1]⟩
abbrev S256x13x4 : Shape := ⟨3, ![256, 13, 4]⟩
abbrev S1x13x4 : Shape := ⟨3, ![1, 13, 4]⟩
abbrev S768x2 : Shape := ⟨2, ![768, 2]⟩
abbrev S256x2 : Shape := ⟨2, ![256, 2]⟩
abbrev S1x2 : Shape := ⟨2, ![1, 2]⟩
abbrev S256x52 : Shape := ⟨2, ![256, 52]⟩
abbrev S256x54 : Shape := ⟨2, ![256, 54]⟩

abbrev nBuf : Space → Nat
  | .hbm => 24
  | .vmem => 0
  | .smem => 0
  | _ => 0

abbrev bufTy : (tb : Table) → Fin (tcTables nBuf tb) → BufTy
  | .hbm, ⟨0, _⟩ => ⟨S256x512x768, .f32⟩
  | .hbm, ⟨1, _⟩ => ⟨S256x512, .i32⟩
  | .hbm, ⟨2, _⟩ => ⟨S13x4x768, .f32⟩
  | .hbm, ⟨3, _⟩ => ⟨S13x4, .f32⟩
  | .hbm, ⟨4, _⟩ => ⟨S2x768, .f32⟩
  | .hbm, ⟨5, _⟩ => ⟨S2, .f32⟩
  | .hbm, ⟨6, _⟩ => ⟨S256x512, .f32⟩
  | .hbm, ⟨7, _⟩ => ⟨S256x768, .f32⟩
  | .hbm, ⟨8, _⟩ => ⟨S_, .f32⟩
  | .hbm, ⟨9, _⟩ => ⟨S256, .f32⟩
  | .hbm, ⟨10, _⟩ => ⟨S256x1, .f32⟩
  | .hbm, ⟨11, _⟩ => ⟨S256x768, .f32⟩
  | .hbm, ⟨12, _⟩ => ⟨S256x768, .f32⟩
  | .hbm, ⟨13, _⟩ => ⟨S256x13x4, .f32⟩
  | .hbm, ⟨14, _⟩ => ⟨S1x13x4, .f32⟩
  | .hbm, ⟨15, _⟩ => ⟨S256x13x4, .f32⟩
  | .hbm, ⟨16, _⟩ => ⟨S256x13x4, .f32⟩
  | .hbm, ⟨17, _⟩ => ⟨S768x2, .f32⟩
  | .hbm, ⟨18, _⟩ => ⟨S256x2, .f32⟩
  | .hbm, ⟨19, _⟩ => ⟨S1x2, .f32⟩
  | .hbm, ⟨20, _⟩ => ⟨S256x2, .f32⟩
  | .hbm, ⟨21, _⟩ => ⟨S256x2, .f32⟩
  | .hbm, ⟨22, _⟩ => ⟨S256x52, .f32⟩
  | .hbm, ⟨23, _⟩ => ⟨S256x54, .f32⟩
  | _, _ => ⟨S256x512x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Proof.Heads.lean ====
/-
  The problem's function, written once over the extended reals: the masked mean of the hidden states over the sequence,
  and the fourteen linear heads of it, side by side in one row of 54 labels. The kernel's side (Blocks.lean) and the
  reference's (Reference.lean) are each shown to be this function.
-/
module

public import proofs.«01_k».proof.Defs
public import Idealize.ShloMosaic.Lib.Pointwise

@[expose] public section

noncomputable section

namespace Cert.Proof

open Idealize.ShloMosaic

/-- The number of valid positions of sequence `b`: the sum of its mask, read as extended reals. -/
def validCount (mask : (⟨2, ![256, 512]⟩ : Shape).Idx → Elt Ideal .i32) (b : Fin 256) : EReal :=
  ∑ l : Fin 512, (FloatOps.sitofp (F := Ideal) .f32 (mask (ix2 b l)) : EReal)

/-- Coordinate `d` of the masked mean of sequence `b`: the masked sum of the hidden states over the number of valid
    positions, with the ideal instance's division (an all-zero mask included). -/
def maskedMean (hidden : (⟨3, ![256, 512, 768]⟩ : Shape).Idx → EReal)
    (mask : (⟨2, ![256, 512]⟩ : Shape).Idx → Elt Ideal .i32) (b : Fin 256) (d : Fin 768) : EReal :=
  Ideal.div (∑ l : Fin 512, (FloatOps.sitofp (F := Ideal) .f32 (mask (ix2 b l)) : EReal) * hidden (ix3 b l d))
    (validCount mask b)

/-- Coordinate `d` of the weight row of label `o`: label `o < 52` is output `o % 4` of the head `o / 4` of the thirteen
    heads of four outputs, the last two labels are the outputs of the fourteenth head. -/
def weightRow (W13 : (⟨3, ![13, 4, 768]⟩ : Shape).Idx → EReal) (W14 : (⟨2, ![2, 768]⟩ : Shape).Idx → EReal)
    (o : Fin 54) (d : Fin 768) : EReal :=
  if h : o.val < 52 then W13 (ix3 ⟨o.val / 4, by omega⟩ ⟨o.val % 4, by omega⟩ d)
  else W14 (ix2 ⟨o.val - 52, by omega⟩ d)

/-- The bias of label `o`, laid out as its weight row is. -/
def biasOf (b13 : (⟨2, ![13, 4]⟩ : Shape).Idx → EReal) (b14 : (⟨1, ![2]⟩ : Shape).Idx → EReal) (o : Fin 54) : EReal :=
  if h : o.val < 52 then b13 (ix2 ⟨o.val / 4, by omega⟩ ⟨o.val % 4, by omega⟩)
  else b14 (ix1 ⟨o.val - 52, by omega⟩)

/-- Label `o` of sequence `b`: its weight row against the sequence's masked mean, and its bias. -/
def label (hidden : (⟨3, ![256, 512, 768]⟩ : Shape).Idx → EReal)
    (mask : (⟨2, ![256, 512]⟩ : Shape).Idx → Elt Ideal .i32)
    (W13 : (⟨3, ![13, 4, 768]⟩ : Shape).Idx → EReal) (b13 : (⟨2, ![13, 4]⟩ : Shape).Idx → EReal)
    (W14 : (⟨2, ![2, 768]⟩ : Shape).Idx → EReal) (b14 : (⟨1, ![2]⟩ : Shape).Idx → EReal)
    (b : Fin 256) (o : Fin 54) : EReal :=
  (∑ d : Fin 768, maskedMean hidden mask b d * weightRow W13 W14 o d) + biasOf b13 b14 o

/-- The labels as an array. -/
def labels (hidden : (⟨3, ![256, 512, 768]⟩ : Shape).Idx → EReal)
    (mask : (⟨2, ![256, 512]⟩ : Shape).Idx → Elt Ideal .i32)
    (W13 : (⟨3, ![13, 4, 768]⟩ : Shape).Idx → EReal) (b13 : (⟨2, ![13, 4]⟩ : Shape).Idx → EReal)
    (W14 : (⟨2, ![2, 768]⟩ : Shape).Idx → EReal) (b14 : (⟨1, ![2]⟩ : Shape).Idx → EReal) :
    (⟨2, ![256, 54]⟩ : Shape).Idx → EReal :=
  fun i => label hidden mask W13 b13 W14 b14 (i 0) (i 1)

end Cert.Proof

end
-- ==== Proof.Blocks.lean ====
/-
  The kernel's side. What one grid point writes — the body's payload of its blocks — read at an index, and the result
  array after the run: the function `labels` of the argument arrays.
-/
module

public import proofs.«01_k».proof.Proof.Heads
public import proofs.«01_k».proof.Proof.Gen.KernelIdeal.Value
public import Idealize.ShloMosaic.Lib.Pipeline.ValueKit

@[expose] public section

set_option maxRecDepth 16384

noncomputable section

namespace Cert.Proof.Blocks

open Idealize.ShloMosaic Idealize.ShloMosaic.TcCoe Idealize.SL.Sem Cert.KernelIdeal Cert.KernelIdeal.Gen
open Idealize.ShloMosaic.Pipeline (Dat)

/-- One block's payload at row `r` and label `o`: the row's masked sum over its mask's sum, times the weight column,
    and the bias. -/
theorem payload_apply (h : Vec Ideal S8x512x768 .f32) (k : Vec Ideal S8x512 .f32) (w : Vec Ideal S768x54 .f32)
    (b : Vec Ideal S1x54 .f32) (r : Fin 8) (o : Fin 54) :
    k0_pay1 h k w b (ix2 r o)
      = (∑ d : Fin 768, Ideal.div (∑ l : Fin 512, k (ix2 r l) * h (ix3 r l d)) (∑ l : Fin 512, k (ix2 r l))
          * w (ix2 d o)) + b (ix2 0 o) := by
  pointwise [k0_pay1]
  simp only [mul_comm (h _)]

variable (m : (ℓ : Loc nD τ sig) → Buf (Elt Ideal) ℓ)

/-- The windows' block indices at every grid point: the point's number along the batch, zero elsewhere. -/
theorem idx : ∀ t : Fin cfg0.N, win0_0.index t = ![t.val, 0, 0] ∧ win0_1.index t = ![t.val, 0]
    ∧ win0_2.index t = ![0, 0] ∧ win0_3.index t = ![0, 0] ∧ win0_4.index t = ![t.val, 0] :=
  (by decide +kernel : ∀ t : Fin grid0.N, _)

/-- Row `r` of block `t`, as a row of the whole batch. -/
def batchRow (t : Fin cfg0.N) (r : Fin 8) : Fin 256 := ⟨t.val * 8 + r.val, by have := t.isLt; have := r.isLt; change t.val < 32 at *; omega⟩

/-- Where an entry of point `t`'s mask block lies in the whole mask. -/
theorem mask_place (t : Fin cfg0.N) (r : Fin 8) (l : Fin 512) :
    ((View.whole main_v6).slice (win0_1.rect t)).emb (ix2 r l) = ix2 (batchRow t r) l := by
  blk_ext [idx t, batchRow]

/-- The weights' block is the whole array. -/
theorem weight_place (t : Fin cfg0.N) (d : Fin 768) (o : Fin 54) :
    ((View.whole main_v2).slice (win0_2.rect t)).emb (ix2 d o) = ix2 d o := by
  blk_ext [idx t]

/-- The biases' block is the whole row. -/
theorem bias_place (t : Fin cfg0.N) (o : Fin 54) :
    ((View.whole main_v5).slice (win0_3.rect t)).emb (ix2 0 o) = ix2 0 o := by
  blk_ext [idx t]

/-- Where an entry of point `t`'s result block lies in the result. -/
theorem label_place (t : Fin cfg0.N) (r : Fin 8) (o : Fin 54) :
    ((View.whole main_v7).slice (win0_4.rect t)).emb (ix2 r o) = ix2 (batchRow t r) o := by
  blk_ext [idx t, batchRow]

/-- Point `t`'s block of the hidden states is its eight rows of the argument. -/
theorem hidden_block (c : Dev nD) (t : Fin cfg0.N) (r : Fin 8) (l : Fin 512) (d : Fin 768) :
    iblk m c 0 t (ix3 r l d) = m ((c : Thread nD τ).loc main_arg0) (ix3 (batchRow t r) l d) := by
  blk_ext [iblk, V, idx t, batchRow]

/-- Point `t`'s block of the mask is its eight rows of the argument, converted. -/
theorem mask_block (c : Dev nD) (t : Fin cfg0.N) (r : Fin 8) (l : Fin 512) :
    iblk m c 1 t (ix2 r l)
      = (FloatOps.sitofp (F := Ideal) .f32 (m ((c : Thread nD τ).loc main_arg1) (ix2 (batchRow t r) l)) : EReal) := by
  blk_simp [iblk]
  rw [mask_place]
  entry_read
  pointwise

/-- Every point's block of the weights is the whole array, whose column `o` is the weight row of label `o`. -/
theorem weight_block (c : Dev nD) (t : Fin cfg0.N) (d : Fin 768) (o : Fin 54) :
    iblk m c 2 t (ix2 d o)
      = weightRow (m ((c : Thread nD τ).loc main_arg2)) (m ((c : Thread nD τ).loc main_arg4)) o d := by
  blk_simp [iblk]
  rw [weight_place]
  entry_read
  pointwise [weightRow]

/-- Every point's block of the biases is the whole row, whose entry `o` is the bias of label `o`. -/
theorem bias_block (c : Dev nD) (t : Fin cfg0.N) (o : Fin 54) :
    iblk m c 3 t (ix2 0 o)
      = biasOf (m ((c : Thread nD τ).loc main_arg3)) (m ((c : Thread nD τ).loc main_arg5)) o := by
  blk_simp [iblk]
  rw [bias_place]
  entry_read
  pointwise [biasOf]

/-- What point `t` writes at row `r` and label `o` is the label of that row of the batch. -/
theorem point (c : Dev nD) (t : Fin cfg0.N) (r : Fin 8) (o : Fin 54) :
    k0_pay1 (iblk m c 0 t) (iblk m c 1 t) (iblk m c 2 t) (iblk m c 3 t) (ix2 r o)
      = label (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5)) (batchRow t r) o := by
  rw [payload_apply]
  simp only [hidden_block, mask_block, weight_block, bias_block, label, maskedMean, validCount]

/-- The result array after the run: the labels of the arguments. -/
theorem final (c : Dev nD) : (dats m 0 c).arrAt 4 cfg0.N
    = labels (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5)) := by
  refine (dats m 0 c).arrAt_eq_of_covers 4 _ (by decide +kernel) fun t _ y => ?_
  blk_simp
  rw [after0_4]; frame_out
  obtain ⟨r, o, rfl⟩ : ∃ (r : Fin 8) (o : Fin 54), y = ix2 r o := ⟨y 0, y 1, eq_ix2 y⟩
  rw [point, label_place]
  rfl

end Cert.Proof.Blocks

end
-- ==== Proof.Reference.lean ====
/-
  The reference's side: its composed term at an index is the label, and so its result array is `labels`.
-/
module

public import proofs.«01_k».proof.Proof.Heads
public import proofs.«01_k».proof.Proof.Gen.ReferenceIdeal.Run

@[expose] public section

set_option maxRecDepth 16384

noncomputable section

namespace Cert.Proof.Reference

open Idealize.ShloMosaic Idealize.ShloMosaic.TcCoe Idealize.SL.Sem Cert.ReferenceIdeal Cert.ReferenceIdeal.Gen

/-- The reference's pooled array: the masked sum, a product of the mask with the hidden states, over the mask's sum. -/
def pooled (H : FVec Ideal S256x512x768 .f32) (M : IVec S256x512 32) : FVec Ideal S256x768 .f32 :=
  Host.divf (Host.dotGeneral dot_S256x512_S256x512x768_S256x768_1_1_n_2_0_0 none (sitofp .f32 M) H)
    (broadcastInDim S256x768 ![0, 1] bcast_S256x1_S256x768_0_1 (broadcastInDim S256x1 ![0] bcast_S256_S256x1_0
      (Host.reduceAdd (sitofp .f32 M) (constant S_ .f32 0x00000000#32) reducesTo_S256x512_S256_d1 h_S_)))

/-- The pooled array at an index is the masked mean. -/
theorem pooled_apply (H : FVec Ideal S256x512x768 .f32) (M : IVec S256x512 32) (b : Fin 256) (d : Fin 768) :
    pooled H M (ix2 b d) = maskedMean H M b d := by
  pointwise [pooled, maskedMean, validCount]

/-- The reference's result as a term of its arguments. -/
def result (H : FVec Ideal S256x512x768 .f32) (M : IVec S256x512 32) (W13 : FVec Ideal S13x4x768 .f32)
    (b13 : FVec Ideal S13x4 .f32) (W14 : FVec Ideal S2x768 .f32) (b14 : FVec Ideal S2 .f32) : FVec Ideal S256x54 .f32 :=
  concatenate S256x54 1
    [⟨S256x52, shapeCast _ (addf (Host.dotGeneral dot_S256x768_S13x4x768_S256x13x4_1_2_0_01_n_n none (pooled H M) W13)
        (broadcastInDim S256x13x4 ![0, 1, 2] bcast_S1x13x4_S256x13x4_0_1_2
          (broadcastInDim S1x13x4 ![1, 2] bcast_S13x4_S1x13x4_1_2 b13))) shapeCasts_S256x13x4_S256x52⟩,
     ⟨S256x2, addf (Host.dotGeneral dot_S256x768_S768x2_S256x2_1_0_0_1_n_n none (pooled H M)
          (transpose S768x2 [1, 0] W14 transposes_S2x768_S768x2_1_0))
        (broadcastInDim S256x2 ![0, 1] bcast_S1x2_S256x2_0_1 (broadcastInDim S1x2 ![1] bcast_S2_S1x2_1 b14))⟩]
    concatenates_S256x52_S256x2_S256x54_d1

/-- The reference's result is the labels of its arguments. -/
theorem result_eq (H : FVec Ideal S256x512x768 .f32) (M : IVec S256x512 32) (W13 : FVec Ideal S13x4x768 .f32)
    (b13 : FVec Ideal S13x4 .f32) (W14 : FVec Ideal S2x768 .f32) (b14 : FVec Ideal S2 .f32) :
    result H M W13 b13 W14 b14 = labels H M W13 b13 W14 b14 := by
  funext i
  obtain ⟨b, o, rfl⟩ : ∃ (b : Fin 256) (o : Fin 54), i = ix2 b o := ⟨i 0, i 1, eq_ix2 i⟩
  pointwise [result, labels, label, weightRow, biasOf, pooled_apply]
  by_cases h : o.val < 52 <;> simp only [h, dif_pos, dif_neg, not_false_eq_true]

end Cert.Proof.Reference

end
-- ==== Proof.lean ====
/-
  The certificate of the masked mean pooling kernel with its fourteen linear heads: the three frames, which are generated,
  and the algebraic claim. Blocks.lean shows that the kernel's result array after the run is `labels` of its arguments,
  Reference.lean that the reference's result is `labels` of the same arguments; Heads.lean says what `labels` is.
-/
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Blocks
public import proofs.«01_k».proof.Proof.Reference
public import Idealize.ShloMosaic.Lib.Claim
public import Idealize.ShloMosaic.Adequacy
public import Idealize.ShloMosaic.Init

@[expose] public section

noncomputable section

namespace Cert.Proof

open Idealize.ShloMosaic Idealize.SL.Sem

/-- The reference terminates with its arguments unchanged; it has no semaphore, so every counter is at zero. -/
theorem reference_frame : Cert.quiescent_ReferenceIdeal (hReferenceIdeal := Cert.ReferenceIdeal.Gen.facts) := by
  intro m g _
  exact (θ_run (Cert.ReferenceIdeal.defs (F := Ideal)) _ _).mono
    (fun r h => ⟨fun c => (h c).2, sem_eq_zero_of_no_sems (by decide) r.2⟩) (Cert.ReferenceIdeal.Value.run m g)

/-- Kernel and reference compute the same function over the extended reals: both results are `labels` of the arguments. -/
theorem algebraic : Cert.algebraic_KernelIdeal_ReferenceIdeal (hKernelIdeal := Cert.KernelIdeal.Gen.facts)
    (hReferenceIdeal := Cert.ReferenceIdeal.Gen.facts) := by
  intro m g m' g' _ hargs
  refine ⟨_, Cert.KernelIdeal.Value.run_blocks m g, ?_⟩
  refine (θ_run (Cert.ReferenceIdeal.defs (F := Ideal)) _ _).mono (fun r h c => ?_) (Cert.ReferenceIdeal.Value.run m' g')
  obtain ⟨hv, hk⟩ := h c
  obtain ⟨h0, h1, h2, h3, h4, h5⟩ := hargs c
  refine ⟨(hv.trans (Reference.result_eq _ _ _ _ _ _)).trans ?_, hk⟩
  rw [h0, h1, h2, h3, h4, h5]
  exact (Blocks.final m c).symm

theorem claim : Cert.Claim :=
  ⟨Cert.Kernel.Gen.facts, Cert.KernelIdeal.Gen.facts, Cert.ReferenceIdeal.Gen.facts,
    fun m g _ => Cert.Kernel.Gen.frame m g, fun m g _ => Cert.KernelIdeal.Gen.frame m g, reference_frame, trivial, algebraic⟩

end Cert.Proof

end
